-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v6)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v6) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v4) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4096x200x64 : Shape := ⟨3, ![4096, 200, 64]⟩
abbrev S800x64 : Shape := ⟨2, ![800, 64]⟩
abbrev S200x64x4096 : Shape := ⟨3, ![200, 64, 4096]⟩
abbrev S12800x4096 : Shape := ⟨2, ![12800, 4096]⟩
abbrev S200x64 : Shape := ⟨2, ![200, 64]⟩
abbrev S20x5x128 : Shape := ⟨3, ![20, 5, 128]⟩
abbrev S640x4096 : Shape := ⟨2, ![640, 4096]⟩
abbrev S1x5x128 : Shape := ⟨3, ![1, 5, 128]⟩
abbrev S5x128x4096 : Shape := ⟨3, ![5, 128, 4096]⟩
abbrev S5x128 : Shape := ⟨2, ![5, 128]⟩
abbrev S5x128x1 : Shape := ⟨3, ![5, 128, 1]⟩

abbrev nBuf : Space → Nat
  | .hbm => 9
  | .vmem => 6
  | .smem => 0
  | _ => 0

abbrev bufTy : (tb : Table) → Fin (tcTables nBuf tb) → BufTy
  | .hbm, ⟨0, _⟩ => ⟨S4096x200x64, .f32⟩
  | .hbm, ⟨1, _⟩ => ⟨S800x64, .f32⟩
  | .hbm, ⟨2, _⟩ => ⟨S200x64x4096, .f32⟩
  | .hbm, ⟨3, _⟩ => ⟨S12800x4096, .f32⟩
  | .hbm, ⟨4, _⟩ => ⟨S200x64, .f32⟩
  | .hbm, ⟨5, _⟩ => ⟨S20x5x128, .f32⟩
  | .hbm, ⟨6, _⟩ => ⟨S12800x4096, .f32⟩
  | .hbm, ⟨7, _⟩ => ⟨S200x64x4096, .f32⟩
  | .hbm, ⟨8, _⟩ => ⟨S4096x200x64, .f32⟩
  | .local _ .vmem, ⟨0, _⟩ => ⟨S640x4096, .f32⟩
  | .local _ .vmem, ⟨1, _⟩ => ⟨S640x4096, .f32⟩
  | .local _ .vmem, ⟨2, _⟩ => ⟨S1x5x128, .f32⟩
  | .local _ .vmem, ⟨3, _⟩ => ⟨S1x5x128, .f32⟩
  | .local _ .vmem, ⟨4, _⟩ => ⟨S640x4096, .f32⟩
  | .local _ .vmem, ⟨5, _⟩ => ⟨S640x4096, .f32⟩
  | _, _ => ⟨S4096x200x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x5x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference.lean ====
abbrev S4096x200x64 : Shape := ⟨3, ![4096, 200, 64]⟩
abbrev S800x64 : Shape := ⟨2, ![800, 64]⟩
abbrev S200 : Shape := ⟨1, ![200]⟩
abbrev S_ : Shape := ⟨0, ![]⟩
abbrev S200x1 : Shape := ⟨2, ![200, 1]⟩
abbrev S1 : Shape := ⟨1, ![1]⟩
abbrev S1x1 : Shape := ⟨2, ![1, 1]⟩
abbrev S200x64 : Shape := ⟨2, ![200, 64]⟩
abbrev S1x200x64 : Shape := ⟨3, ![1, 200, 64]⟩

abbrev nBuf : Space → Nat
  | .hbm => 29
  | .vmem => 0
  | .smem => 0
  | _ => 0

abbrev bufTy : (tb : Table) → Fin (tcTables nBuf tb) → BufTy
  | .hbm, ⟨0, _⟩ => ⟨S4096x200x64, .f32⟩
  | .hbm, ⟨1, _⟩ => ⟨S800x64, .f32⟩
  | .hbm, ⟨2, _⟩ => ⟨S200, .i32⟩
  | .hbm, ⟨3, _⟩ => ⟨S_, .i32⟩
  | .hbm, ⟨4, _⟩ => ⟨S200, .i32⟩
  | .hbm, ⟨5, _⟩ => ⟨S200, .i1⟩
  | .hbm, ⟨6, _⟩ => ⟨S_, .i32⟩
  | .hbm, ⟨7, _⟩ => ⟨S200, .i32⟩
  | .hbm, ⟨8, _⟩ => ⟨S200, .i32⟩
  | .hbm, ⟨9, _⟩ => ⟨S200, .i32⟩
  | .hbm, ⟨10, _⟩ => ⟨S200x1, .i32⟩
  | .hbm, ⟨11, _⟩ => ⟨S1, .i32⟩
  | .hbm, ⟨12, _⟩ => ⟨S_, .i32⟩
  | .hbm, ⟨13, _⟩ => ⟨S200x1, .i32⟩
  | .hbm, ⟨14, _⟩ => ⟨S200x1, .i1⟩
  | .hbm, ⟨15, _⟩ => ⟨S1x1, .i32⟩
  | .hbm, ⟨16, _⟩ => ⟨S200x1, .i32⟩
  | .hbm, ⟨17, _⟩ => ⟨S200x1, .i1⟩
  | .hbm, ⟨18, _⟩ => ⟨S200x1, .i1⟩
  | .hbm, ⟨19, _⟩ => ⟨S_, .i1⟩
  | .hbm, ⟨20, _⟩ => ⟨S200, .i1⟩
  | .hbm, ⟨21, _⟩ => ⟨S200x64, .f32⟩
  | .hbm, ⟨22, _⟩ => ⟨S200x64, .i1⟩
  | .hbm, ⟨23, _⟩ => ⟨S_, .f32⟩
  | .hbm, ⟨24, _⟩ => ⟨S200x64, .f32⟩
  | .hbm, ⟨25, _⟩ => ⟨S200x64, .f32⟩
  | .hbm, ⟨26, _⟩ => ⟨S1x200x64, .f32⟩
  | .hbm, ⟨27, _⟩ => ⟨S4096x200x64, .f32⟩
  | .hbm, ⟨28, _⟩ => ⟨S4096x200x64, .f32⟩
  | _, _ => ⟨S4096x200x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Spec.lean ====
/-
  The function that both programs compute, and the kernel's pure terms read at an index (the
  reference's are in Lookup.lean).

  `embedded x p` is the batch `x` with row `s` of the table `p` added to position `s` of every sequence.
  `columns x p` is the same array as the kernel lays it out: one row for each pair (position, coordinate) of a
  sequence, in row-major order of the pair, and one column for each sequence of the batch.
-/
module

public import Idealize.ShloMosaic.Lib.Pipeline.ValueKit
public import Idealize.ShloMosaic.Lib.ValueIdxCore
public import Idealize.ShloMosaic.Lib.Routing.Ops

@[expose] public section

set_option maxRecDepth 16384

noncomputable section

namespace Cert.PosEmbed

open Idealize.ShloMosaic

variable {F : FTy → Type} [FloatOps F]

/-- A batch of sequences: 4096 sequences of 200 positions, 64 coordinates each. -/
abbrev Batch : Shape := ⟨3, ![4096, 200, 64]⟩
/-- The table of positional embeddings: 800 positions, 64 coordinates each. -/
abbrev Table : Shape := ⟨2, ![800, 64]⟩
/-- The rows of the table that are in use. -/
abbrev Used : Shape := ⟨2, ![200, 64]⟩
/-- The batch with its sequences along the last axis. -/
abbrev Turned : Shape := ⟨3, ![200, 64, 4096]⟩
/-- The batch with position and coordinate merged into one axis and its sequences along the other. -/
abbrev Columns : Shape := ⟨2, ![12800, 4096]⟩
/-- The rows of the table that are in use, cut into the 20 blocks of 5 × 128 entries that the grid hands out. -/
abbrev Blocks : Shape := ⟨3, ![20, 5, 128]⟩

/-- Sequence `b`, position `s`, coordinate `d` of the batch plus coordinate `d` of row `s` of the table. -/
def embedded (x : FVec F Batch .f32) (p : FVec F Table .f32) : FVec F Batch .f32 := fun i =>
  FloatOps.addf (x i) (p (ix2 ⟨(i 1).val, (idx_lt i).trans (by decide)⟩ ⟨(i 2).val, (i 2).isLt⟩))
where
  /-- A position is below 200. -/
  idx_lt (i : Batch.Idx) : (i 1).val < 200 := (i 1).isLt

/-- The sum in the kernel's layout: row `r` is position `r / 64`, coordinate `r % 64`, and column `b` is sequence `b`. -/
def columns (x : FVec F Batch .f32) (p : FVec F Table .f32) : FVec F Columns .f32 := fun j =>
  FloatOps.addf
    (x (ix3 ⟨(j 1).val, (j 1).isLt⟩ ⟨(j 0).val / 64, pos_lt j⟩ ⟨(j 0).val % 64, Nat.mod_lt _ (by decide)⟩))
    (p (ix2 ⟨(j 0).val / 64, (pos_lt j).trans (by decide)⟩ ⟨(j 0).val % 64, Nat.mod_lt _ (by decide)⟩))
where
  /-- A row's position is below 200. -/
  pos_lt (j : Columns.Idx) : (j 0).val / 64 < 200 := by
    have h : (j 0).val < 12800 := (j 0).isLt
    omega

/-! ## The host lines before the region -/

/-- The batch transposed and reshaped, read at row `r` and column `b`: sequence `b` at position `r / 64`, coordinate `r % 64`. -/
theorem turned_apply (x : FVec F Batch .f32) (ht : Batch.Transposes [1, 2, 0] Turned) (hc : Turned.ShapeCasts Columns)
    (r : Fin 12800) (b : Fin 4096) (s : Fin 200) (d : Fin 64) (hr : r.val = s.val * 64 + d.val) :
    shapeCast Columns (transpose Turned [1, 2, 0] x ht) hc (ix2 r b) = x (ix3 b s d) := by
  rw [shapeCast_apply _ hc (ix2 r b) (ix3 s d b) (by
    rw [Shape.rowMajor_val_three, Shape.rowMajor_val_two]
    show (s.val * 64 + d.val) * 4096 + b.val = r.val * 4096 + b.val
    rw [hr])]
  exact transpose_apply _ x ht _ _ fun a => by match a with | ⟨0, _⟩ => rfl | ⟨1, _⟩ => rfl | ⟨2, _⟩ => rfl

/-- The used rows of the table cut into blocks, read at block `t`, line `u`, lane `v`: the entry of the table whose row-major
    position is `t · 640 + u · 128 + v`. -/
theorem blocks_apply (p : FVec F Table .f32) (hs : Table.Slices ![0, 0] Used) (hc : Used.ShapeCasts Blocks)
    (t : Fin 20) (u : Fin 5) (v : Fin 128) (s : Fin 800) (d : Fin 64)
    (h : (t.val * 5 + u.val) * 128 + v.val = s.val * 64 + d.val) :
    shapeCast Blocks (extractStridedSlice Used ![0, 0] p hs) hc (ix3 t u v) = p (ix2 s d) := by
  have hs' : s.val < 200 := by omega
  rw [shapeCast_apply _ hc (ix3 t u v) (ix2 (⟨s.val, hs'⟩ : Fin 200) d) (by
    rw [Shape.rowMajor_val_three, Shape.rowMajor_val_two]
    exact h.symm)]
  exact extractStridedSlice_apply _ p hs _ _ fun a => by
    match a with
    | ⟨0, _⟩ => exact (Nat.zero_add _).symm
    | ⟨1, _⟩ => exact (Nat.zero_add _).symm

/-! ## The body -/

/-- What the body stores, read at row `r` and column `b` of a block: the batch's entry there plus the table's entry number
    `r` of the block's 5 × 128, whatever the column. -/
theorem body_apply (x : FVec F ⟨2, ![640, 4096]⟩ .f32) (p : FVec F ⟨3, ![1, 5, 128]⟩ .f32)
    (h1 : (⟨2, ![640, 4096]⟩ : Shape).ShapeCasts ⟨2, ![640, 4096]⟩) (h2 : (⟨2, ![640, 4096]⟩ : Shape).ShapeCasts ⟨3, ![5, 128, 4096]⟩)
    (h3 : (⟨3, ![1, 5, 128]⟩ : Shape).ShapeCasts ⟨2, ![5, 128]⟩) (h4 : (⟨2, ![5, 128]⟩ : Shape).ShapeCasts ⟨3, ![5, 128, 1]⟩)
    (h5 : (⟨3, ![5, 128, 1]⟩ : Shape).Broadcasts ⟨3, ![5, 128, 4096]⟩) (h6 : (⟨3, ![5, 128, 4096]⟩ : Shape).ShapeCasts ⟨2, ![640, 4096]⟩)
    (r : Fin 640) (b : Fin 4096) (u : Fin 5) (v : Fin 128) (hr : r.val = u.val * 128 + v.val) :
    shapeCast ⟨2, ![640, 4096]⟩ (addf (shapeCast ⟨3, ![5, 128, 4096]⟩ (shapeCast ⟨2, ![640, 4096]⟩ x h1) h2)
        (broadcastTo ⟨3, ![5, 128, 4096]⟩ (shapeCast ⟨3, ![5, 128, 1]⟩ (shapeCast ⟨2, ![5, 128]⟩ p h3) h4) h5)) h6 (ix2 r b)
      = FloatOps.addf (x (ix2 r b)) (p (ix3 0 u v)) := by
  rw [shapeCast_apply _ h6 (ix2 r b) (ix3 u v b) (by
    rw [Shape.rowMajor_val_three, Shape.rowMajor_val_two]
    show (u.val * 128 + v.val) * 4096 + b.val = r.val * 4096 + b.val
    rw [hr])]
  refine congrArg₂ FloatOps.addf ?_ ?_
  · rw [shapeCast_apply _ h2 (ix3 u v b) (ix2 r b) (by
      rw [Shape.rowMajor_val_three, Shape.rowMajor_val_two]
      show r.val * 4096 + b.val = (u.val * 128 + v.val) * 4096 + b.val
      rw [hr])]
    exact shapeCast_apply _ h1 _ _ rfl
  · rw [broadcastTo_apply _ h5 (ix3 u v b) (ix3 u v 0) fun a => by
      match a with | ⟨0, _⟩ => rfl | ⟨1, _⟩ => rfl | ⟨2, _⟩ => rfl]
    rw [shapeCast_apply _ h4 (ix3 u v 0) (ix2 u v) (by
      rw [Shape.rowMajor_val_three, Shape.rowMajor_val_two]
      show u.val * 128 + v.val = (u.val * 128 + v.val) * 1 + 0
      omega)]
    exact shapeCast_apply _ h3 _ _ (by
      rw [Shape.rowMajor_val_three, Shape.rowMajor_val_two]
      show (0 * 5 + u.val) * 128 + v.val = u.val * 128 + v.val
      omega)

/-! ## The host lines after the region -/

/-- The sum in the kernel's layout, reshaped and transposed back, is the batch with the table's rows added. -/
theorem back_eq (x : FVec F Batch .f32) (p : FVec F Table .f32) (hc : Columns.ShapeCasts Turned)
    (ht : Turned.Transposes [2, 0, 1] Batch) :
    transpose Batch [2, 0, 1] (shapeCast Turned (columns x p) hc) ht = embedded x p := by
  funext i
  obtain ⟨b, s, d, rfl⟩ : ∃ (b : Fin 4096) (s : Fin 200) (d : Fin 64), i = ix3 b s d := ⟨_, _, _, eq_ix3 i⟩
  rw [transpose_apply _ _ ht (ix3 b s d) (ix3 s d b) fun a => by
    match a with | ⟨0, _⟩ => rfl | ⟨1, _⟩ => rfl | ⟨2, _⟩ => rfl]
  have hlt : s.val * 64 + d.val < 12800 := by omega
  rw [shapeCast_apply _ hc (ix3 s d b) (ix2 (⟨s.val * 64 + d.val, hlt⟩ : Fin 12800) b) (by
    rw [Shape.rowMajor_val_three, Shape.rowMajor_val_two]; rfl)]
  have e1 : (s.val * 64 + d.val) / 64 = s.val := by omega
  have e2 : (s.val * 64 + d.val) % 64 = d.val := by omega
  refine congrArg₂ FloatOps.addf (congrArg x ?_) (congrArg p ?_)
  · funext a
    match a with | ⟨0, _⟩ => rfl | ⟨1, _⟩ => exact Fin.ext e1 | ⟨2, _⟩ => exact Fin.ext e2
  · funext a
    match a with | ⟨0, _⟩ => exact Fin.ext e1 | ⟨1, _⟩ => exact Fin.ext e2

end Cert.PosEmbed

end
-- ==== Proof.KernelIdealValue.lean ====
/-
  The run of the idealized kernel (the subject of the algebraic claim) ends with its result at the
  batch with the table's rows added (`Cert.PosEmbed.embedded`).
-/
module

public import proofs.«01_k».proof.Proof.Gen.KernelIdeal.Frame
public import proofs.«01_k».proof.Proof.Spec
public import Idealize.ShloMosaic.Lib.Pipeline.ValueKit

@[expose] public section

set_option maxRecDepth 16384

noncomputable section

namespace Cert.KernelIdeal.Sum

open Cert.KernelIdeal Cert.KernelIdeal.Gen Idealize.ShloMosaic Idealize.ShloMosaic.TcCoe Idealize.SL.Sem Idealize.ShloMosaic.StableHlo
open Cert.PosEmbed

variable {F : FTy → Type} [FloatOps F]
variable (m : (ℓ : Loc nD τ sig) → Buf (Elt F) ℓ) (ρ : Dev nD → PrngReg)

/-- At grid point `t` each window's block is number `t` along the array's first axis and number zero along the others. -/
theorem idx : ∀ t : Fin cfg0.N, win0_0.index t = ![t.val, 0] ∧ win0_1.index t = ![t.val, 0, 0] ∧ win0_2.index t = ![t.val, 0] :=
  (by decide +kernel : ∀ t : Fin grid0.N, _)

/-- The region finds the batch transposed and reshaped in its first array. -/
theorem entry_batch (c : Dev nD) : V m c main_v1
    = shapeCast S12800x4096 (transpose S200x64x4096 [1, 2, 0] (m ((c : Thread nD τ).loc main_arg0)) transposes_S4096x200x64_S200x64x4096_1_2_0) shapeCasts_S200x64x4096_S12800x4096 := by
  show StableHlo.after hostOps0 _ _ = _
  unfold hostOps0
  after_results
  rfl

/-- The region finds the used rows of the table, cut into blocks, in its second array. -/
theorem entry_table (c : Dev nD) : V m c main_v3
    = shapeCast S20x5x128 (extractStridedSlice S200x64 ![0, 0] (m ((c : Thread nD τ).loc main_arg1)) slices_S800x64_S200x64_0_0) shapeCasts_S200x64_S20x5x128 := by
  show StableHlo.after hostOps0 _ _ = _
  unfold hostOps0
  after_results
  rfl

/-- The batch's block at grid point `t` is rows `t · 640` and on of the first array. -/
theorem batch_block (c : Dev nD) (t : Fin cfg0.N) (r : Fin 640) (b : Fin 4096) (R : Fin 12800) (hR : R.val = t.val * 640 + r.val) :
    iblk m c 0 t (ix2 r b) = V m c main_v1 (ix2 R b) := by
  refine congrArg (V m c main_v1) (funext fun a => Fin.ext ((win0_0.rect_emb_val t (ix2 r b) a rfl).trans ?_))
  rw [(idx t).1]
  match a with
  | ⟨0, _⟩ => exact hR.symm
  | ⟨1, _⟩ => exact (congrArg (· + b.val) (Nat.zero_mul _)).trans (Nat.zero_add _)

/-- The table's block at grid point `t` is block `t` of the second array. -/
theorem table_block (c : Dev nD) (t : Fin cfg0.N) (u : Fin 5) (v : Fin 128) (T : Fin 20) (hT : T.val = t.val) :
    iblk m c 1 t (ix3 0 u v) = V m c main_v3 (ix3 T u v) := by
  refine congrArg (V m c main_v3) (funext fun a => Fin.ext ((win0_1.rect_emb_val t (ix3 0 u v) a rfl).trans ?_))
  rw [(idx t).2.1]
  match a with
  | ⟨0, _⟩ => exact (Nat.mul_one _).trans hT.symm
  | ⟨1, _⟩ => exact (congrArg (· + u.val) (Nat.zero_mul _)).trans (Nat.zero_add _)
  | ⟨2, _⟩ => exact (congrArg (· + v.val) (Nat.zero_mul _)).trans (Nat.zero_add _)

/-- What the body stores at grid point `t`, read at row `r` and column `b` of its block, is the sum in the kernel's layout at
    row `t · 640 + r`. -/
theorem point (c : Dev nD) (t : Fin cfg0.N) (r : Fin 640) (b : Fin 4096) (R : Fin 12800) (hR : R.val = t.val * 640 + r.val) :
    k0_pay1 (iblk m c 0 t) (iblk m c 1 t) (ix2 r b)
      = columns (m ((c : Thread nD τ).loc main_arg0)) (m ((c : Thread nD τ).loc main_arg1)) (ix2 R b) := by
  have ht : t.val < 20 := t.isLt
  have hu : r.val / 128 < 5 := by omega
  have hv : r.val % 128 < 128 := Nat.mod_lt _ (by decide)
  refine (body_apply (iblk m c 0 t) (iblk m c 1 t) _ _ _ _ _ _ r b ⟨r.val / 128, hu⟩ ⟨r.val % 128, hv⟩ (by
    show r.val = r.val / 128 * 128 + r.val % 128; omega)).trans ?_
  rw [batch_block m c t r b R hR, table_block m c t _ _ ⟨t.val, ht⟩ rfl, entry_batch, entry_table]
  refine congrArg₂ FloatOps.addf ?_ ?_
  · exact turned_apply _ _ _ R b ⟨R.val / 64, by omega⟩ ⟨R.val % 64, Nat.mod_lt _ (by decide)⟩ (by
      show R.val = R.val / 64 * 64 + R.val % 64; omega)
  · exact blocks_apply _ _ _ _ _ _ ⟨R.val / 64, by omega⟩ ⟨R.val % 64, Nat.mod_lt _ (by decide)⟩ (by
      show (t.val * 5 + r.val / 128) * 128 + r.val % 128 = R.val / 64 * 64 + R.val % 64; omega)

/-- The region leaves the sum in the kernel's layout in its third array: the grid's 20 blocks of 640 rows cover it, and what the
    body stores at a grid point is that block of it. -/
theorem final (c : Dev nD) : (dats m 0 c).arrAt 2 (cfgs 0).N
    = columns (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨r, b, rfl⟩ : ∃ (r : Fin 640) (b : Fin 4096), y = ix2 r b := ⟨_, _, eq_ix2 y⟩
  have ht : t.val < 20 := t.isLt
  refine (point m c t r b ⟨t.val * 640 + r.val, by omega⟩ rfl).trans
    (congrArg _ (funext fun a => Fin.ext (Eq.trans ?_ (win0_2.rect_emb_val t (ix2 r b) a rfl).symm)))
  rw [(idx t).2.2]
  match a with
  | ⟨0, _⟩ => rfl
  | ⟨1, _⟩ => exact ((congrArg (· + b.val) (Nat.zero_mul _)).trans (Nat.zero_add _)).symm

/-- After the host lines that follow the region the result buffer holds the batch with the table's rows added. -/
theorem result (c : Dev nD) : Pipeline.afterTail₀ cfgs (dats m) 0 (V0 m) [hostOps1] c main_v6
    = embedded (m ((c : Thread nD τ).loc main_arg0)) (m ((c : Thread nD τ).loc main_arg1)) := by
  unfold Pipeline.afterTail₀
  show StableHlo.after hostOps1 _ _ = _
  unfold hostOps1
  after_results
  refine Eq.trans (congrArg (fun z => transpose S4096x200x64 [2, 0, 1] (shapeCast S200x64x4096 z shapeCasts_S12800x4096_S200x64x4096)
    transposes_S200x64x4096_S4096x200x64_2_0_1) ?_) (back_eq _ _ _ _)
  exact (Pipeline.withArrays_arr _ launch0.win.arr_inj c (V0 m c) _ 2).trans (final m c)

/-- Every weakly fair execution of the kernel terminates with its result at the batch with the table's rows added and both
    arguments unchanged, at any float values and from any memory whose counters are zero. -/
theorem run : θ_run defs (onTc (τ := τ) (main (F := F))) ⟨m, fun _ => 0, ρ⟩ fun r => ∀ c : Dev nD,
    r.2.mem ((c.tc : Thread nD τ).loc main_v6) = embedded (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c =>
    ⟨((h c).2 main_v6 (Pipeline.mem_restRefs_of main_v6 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Sum

end
-- ==== Proof.Lookup.lean ====
/-
  The reference's term — the table's rows fetched at the positions 0 … 199, repeated over the batch and added to it — is the
  batch with the table's rows added (`embedded`).

  The reference fetches by `jnp.take`, which counts a negative row number from the table's end and puts a not-a-number in
  place of a row whose number is out of range. The row numbers are 0 … 199 and the table has 800 rows, so neither happens.
-/
module

public import proofs.«01_k».proof.Proof.Spec
public import Idealize.ShloMosaic.Lib.ReduceAll

@[expose] public section

set_option maxRecDepth 16384

noncomputable section

namespace Cert.PosEmbed

open Idealize.ShloMosaic

variable {F : FTy → Type} [FloatOps F]

/-- One number. -/
abbrev One : Shape := ⟨0, ![]⟩
/-- One entry for each position. -/
abbrev Positions : Shape := ⟨1, ![200]⟩
/-- One entry for each position, as a column. -/
abbrev Column : Shape := ⟨2, ![200, 1]⟩

/-- The row numbers the reference fetches: the positions, a negative one counted from the table's end. -/
abbrev rowNumbers (h0 : One.BroadcastsInDim Positions ![]) (h1 : Positions.BroadcastsInDim Column ![0]) : IVec Column 32 :=
  broadcastInDim Column ![0] h1
    (select (cmpi .slt (iotaInDim Positions 32 0) (broadcastInDim Positions ![] h0 (constantI One 32 0#32)))
      (addi (iotaInDim Positions 32 0) (broadcastInDim Positions ![] h0 (constantI One 32 800#32))) (iotaInDim Positions 32 0))

/-- The row number at position `s` is `s`. -/
theorem rowNumbers_apply (h0 : One.BroadcastsInDim Positions ![]) (h1 : Positions.BroadcastsInDim Column ![0]) (s : Fin 200)
    (z : Fin 1) : rowNumbers h0 h1 (ix2 s z) = BitVec.ofNat 32 s.val := by
  refine (broadcastInDim_apply _ h1 _ _ (ix1 s) fun a => by match a with | ⟨0, _⟩ => rfl).trans ?_
  show Scalar.select (IntOp.cmpi .slt (BitVec.ofNat 32 s.val) 0#32) (IntOp.addi (BitVec.ofNat 32 s.val) 800#32)
    (BitVec.ofNat 32 s.val) = BitVec.ofNat 32 s.val
  revert s
  decide +kernel

/-- Every row number lies in the table: the reference's range test is one at every position. -/
theorem inRange_apply (h0 : One.BroadcastsInDim Positions ![]) (h1 : Positions.BroadcastsInDim Column ![0])
    (h2 : One.BroadcastsInDim Column ![]) (h3 : (⟨1, ![1]⟩ : Shape).BroadcastsInDim ⟨2, ![1, 1]⟩ ![1])
    (h4 : (⟨2, ![1, 1]⟩ : Shape).BroadcastsInDim Column ![0, 1]) (h5 : Column.ReducesTo [1] Positions) (h6 : 0 < One.numel)
    (s : Positions.Idx) :
    Host.reduce IntOp.andi
      (andi (cmpi .sge (rowNumbers h0 h1) (broadcastInDim Column ![] h2 (constantI One 32 0#32)))
        (cmpi .sle (rowNumbers h0 h1)
          (broadcastInDim Column ![0, 1] h4 (broadcastInDim ⟨2, ![1, 1]⟩ ![1] h3 (constantI ⟨1, ![1]⟩ 32 799#32)))))
      (constantI One 1 1#1) h5 h6 s = 1#1 := by
  refine Host.reduce_andi_one _ _ h5 h6 s rfl fun i => ?_
  obtain ⟨r, z, rfl⟩ : ∃ (r : Fin 200) (z : Fin 1), i = ix2 r z := ⟨_, _, eq_ix2 i⟩
  show IntOp.andi (IntOp.cmpi .sge (rowNumbers h0 h1 (ix2 r z)) 0#32) (IntOp.cmpi .sle (rowNumbers h0 h1 (ix2 r z)) 799#32) = 1#1
  rw [rowNumbers_apply]
  revert r
  decide +kernel

/-- The reference's term is the batch with the table's rows added. -/
theorem lookup_eq (x : FVec F Batch .f32) (p : FVec F Table .f32) (d : GatherDims Table Column Used)
    (hoff : d.offsetDims = [1]) (hcoll : d.collapsedSliceDims = [0]) (hob : d.operandBatchingDims = [])
    (hsim : d.startIndexMap = [0]) (hivd : d.indexVectorDim = 1)
    (h0 : One.BroadcastsInDim Positions ![]) (h1 : Positions.BroadcastsInDim Column ![0])
    (h2 : One.BroadcastsInDim Column ![]) (h3 : (⟨1, ![1]⟩ : Shape).BroadcastsInDim ⟨2, ![1, 1]⟩ ![1])
    (h4 : (⟨2, ![1, 1]⟩ : Shape).BroadcastsInDim Column ![0, 1]) (h5 : Column.ReducesTo [1] Positions) (h6 : 0 < One.numel)
    (h7 : Positions.BroadcastsInDim Used ![0]) (h8 : One.BroadcastsInDim Used ![])
    (h9 : Used.BroadcastsInDim ⟨3, ![1, 200, 64]⟩ ![1, 2])
    (h10 : (⟨3, ![1, 200, 64]⟩ : Shape).BroadcastsInDim Batch ![0, 1, 2]) :
    addf x (broadcastInDim Batch ![0, 1, 2] h10 (broadcastInDim ⟨3, ![1, 200, 64]⟩ ![1, 2] h9
      (select
        (broadcastInDim Used ![0] h7
          (Host.reduce IntOp.andi
            (andi (cmpi .sge (rowNumbers h0 h1) (broadcastInDim Column ![] h2 (constantI One 32 0#32)))
              (cmpi .sle (rowNumbers h0 h1)
                (broadcastInDim Column ![0, 1] h4 (broadcastInDim ⟨2, ![1, 1]⟩ ![1] h3 (constantI ⟨1, ![1]⟩ 32 799#32)))))
            (constantI One 1 1#1) h5 h6))
        (Host.gather d p (rowNumbers h0 h1))
        (broadcastInDim Used ![] h8 (constant One .f32 0x7FC00000#32)))))
      = embedded x p := by
  funext i
  obtain ⟨b, s, e, rfl⟩ : ∃ (b : Fin 4096) (s : Fin 200) (e : Fin 64), i = ix3 b s e := ⟨_, _, _, eq_ix3 i⟩
  refine congrArg (FloatOps.addf (x (ix3 b s e))) ?_
  rw [broadcastInDim_apply _ h10 _ (ix3 b s e) (ix3 0 s e) fun a => by
      match a with | ⟨0, _⟩ => rfl | ⟨1, _⟩ => rfl | ⟨2, _⟩ => rfl,
    broadcastInDim_apply _ h9 _ (ix3 0 s e) (ix2 s e) fun a => by
      match a with | ⟨0, _⟩ => rfl | ⟨1, _⟩ => rfl]
  show Scalar.select (broadcastInDim (s := Positions) Used ![0] h7 _ (ix2 s e)) (Host.gather d p (rowNumbers h0 h1) (ix2 s e)) _ = _
  rw [broadcastInDim_apply _ h7 _ (ix2 s e) (ix1 s) fun a => by match a with | ⟨0, _⟩ => rfl, inRange_apply]
  exact Routing.gather_row d hoff hcoll hob hsim hivd p _ s e ⟨s.val, by omega⟩ (rowNumbers_apply h0 h1 s 0) (by decide)

end Cert.PosEmbed

end
-- ==== Proof.ReferenceValue.lean ====
/-
  The reference's run ends with its result at the batch with the table's rows added (`Cert.PosEmbed.embedded`): first the
  printed reference's, the subject of the bit-exact claim, then the idealized one's, the subject of the algebraic claim. Each
  with its frame.
-/
module

public import proofs.«01_k».proof.Proof.Gen.Reference.Run
public import proofs.«01_k».proof.Proof.Gen.ReferenceIdeal.Run
public import proofs.«01_k».proof.Proof.Lookup
public import Idealize.ShloMosaic.Lib.Quiescent

@[expose] public section

noncomputable section

namespace Cert.Reference.Sum

open Cert.Reference Cert.Reference.Gen Idealize.ShloMosaic Idealize.ShloMosaic.TcCoe Idealize.SL.Sem
open Cert.PosEmbed

variable {F : FTy → Type} [FloatOps F]
variable (m : (ℓ : Loc nD τ sig) → Buf (Elt F) ℓ) (ρ : Dev nD → PrngReg)

/-- Every weakly fair execution of the reference terminates with its result at the batch with the table's rows added and both
    arguments unchanged, at any float values and from any memory whose counters are zero. -/
theorem run : θ_run defs (onTc (τ := τ) (main (F := F))) ⟨m, fun _ => 0, ρ⟩ fun r => ∀ c : Dev nD,
    r.2.mem ((c.tc : Thread nD τ).loc main_v4) = embedded (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans (lookup_eq (m ((c.tc : Thread nD τ).loc main_arg0))
      (m ((c.tc : Thread nD τ).loc main_arg1)) _ rfl rfl rfl rfl rfl _ _ _ _ _ _ _ _ _ _ _), (h c).2⟩)
    (Cert.Reference.Value.run m ρ)

/-- Every weakly fair execution of the reference terminates with both arguments unchanged and every counter at zero. -/
theorem frame : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run defs _ _).mono (fun r h => ⟨fun c => (h c).2, sem_eq_zero_of_no_sems (by decide) r.2⟩) (run m ρ)

end Cert.Reference.Sum

namespace Cert.ReferenceIdeal.Sum

open Cert.ReferenceIdeal Cert.ReferenceIdeal.Gen Idealize.ShloMosaic Idealize.ShloMosaic.TcCoe Idealize.SL.Sem
open Cert.PosEmbed

variable {F : FTy → Type} [FloatOps F]
variable (m : (ℓ : Loc nD τ sig) → Buf (Elt F) ℓ) (ρ : Dev nD → PrngReg)

/-- Every weakly fair execution of the reference terminates with its result at the batch with the table's rows added and both
    arguments unchanged, at any float values and from any memory whose counters are zero. -/
theorem run : θ_run defs (onTc (τ := τ) (main (F := F))) ⟨m, fun _ => 0, ρ⟩ fun r => ∀ c : Dev nD,
    r.2.mem ((c.tc : Thread nD τ).loc main_v4) = embedded (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans (lookup_eq (m ((c.tc : Thread nD τ).loc main_arg0))
      (m ((c.tc : Thread nD τ).loc main_arg1)) _ rfl rfl rfl rfl rfl _ _ _ _ _ _ _ _ _ _ _), (h c).2⟩)
    (Cert.ReferenceIdeal.Value.run m ρ)

/-- Every weakly fair execution of the reference terminates with both arguments unchanged and every counter at zero. -/
theorem frame : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run defs _ _).mono (fun r h => ⟨fun c => (h c).2, sem_eq_zero_of_no_sems (by decide) r.2⟩) (run m ρ)

end Cert.ReferenceIdeal.Sum

end
-- ==== Proof.lean ====
/-
  The proof of `Cert.Claim` (Defs.lean), which says of the kernel and of the reference:

  * the kernel and the reference, each as printed and idealized, terminate on every weakly fair execution with their arguments
    unchanged and every semaphore counter at zero;
  * idealizing the kernel used no rewriting rule, so that `preserves` asks for nothing;
  * over the extended reals the kernel and the reference end with equal results, from any arguments;
  * at the machine's floats they end with the same bits, from any arguments.

  Both value claims hold because each program's run ends with its result at `Cert.PosEmbed.embedded` of its arguments
  (Proof/Spec.lean): the kernel's in Proof/KernelValue.lean and Proof/KernelIdealValue.lean, the reference's in
  Proof/ReferenceValue.lean.
-/
module

public import proofs.«01_k».proof.Defs
public import proofs.«01_k».proof.Proof.Gen.ReferenceIdeal.Run
public import proofs.«01_k».proof.Proof.Gen.Reference.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelValue
public import proofs.«01_k».proof.Proof.KernelIdealValue
public import proofs.«01_k».proof.Proof.ReferenceValue
public import Idealize.ShloMosaic.Adequacy
public import Idealize.ShloMosaic.Init

@[expose] public section

noncomputable section

namespace Cert.Proof

open Idealize.ShloMosaic Idealize.SL.Sem

/-- Over the extended reals, from memories that agree on the arguments, the kernel and the reference end with equal results. -/
theorem algebraic : Cert.algebraic_KernelIdeal_ReferenceIdeal := fun m g m' g' _ hargs =>
  ⟨_, Cert.KernelIdeal.Sum.run m g,
    (θ_run Cert.ReferenceIdeal.defs _ _).mono (fun _ h c => ⟨(h c).1.trans (by rw [(hargs c).1, (hargs c).2]), (h c).2⟩)
      (Cert.ReferenceIdeal.Sum.run m' g')⟩

/-- At the machine's floats, from memories that agree on the arguments, the kernel and the reference end with the same bits. -/
theorem bitexact : Cert.bitexact_Kernel_Reference := fun m g m' g' _ hargs =>
  ⟨_, Cert.Kernel.Sum.run m g,
    (θ_run Cert.Reference.defs _ _).mono (fun _ h c => ⟨(h c).1.trans (by rw [(hargs c).1, (hargs c).2]), (h c).2⟩)
      (Cert.Reference.Sum.run m' g')⟩

/-- Everything that Defs.lean claims. -/
theorem claim : Cert.Claim :=
  ⟨Cert.Kernel.Gen.facts, Cert.KernelIdeal.Gen.facts, Cert.Reference.Gen.facts, Cert.ReferenceIdeal.Gen.facts,
    fun m ρ _ => Cert.Kernel.Gen.frame m ρ, fun m ρ _ => Cert.KernelIdeal.Gen.frame m ρ,
    fun m ρ _ => Cert.Reference.Sum.frame m ρ, fun m ρ _ => Cert.ReferenceIdeal.Sum.frame m ρ,
    trivial, algebraic, bitexact⟩

end Cert.Proof

end
